-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048 : Shape := ⟨2, ![4, 2048]⟩
abbrev S4x2 : Shape := ⟨2, ![4, 2]⟩
abbrev S4x2048x2048 : Shape := ⟨3, ![4, 2048, 2048]⟩
abbrev S1x2048x2048 : Shape := ⟨3, ![1, 2048, 2048]⟩
abbrev S1x1 : Shape := ⟨2, ![1, 1]⟩
abbrev S32x1 : Shape := ⟨2, ![32, 1]⟩
abbrev S32x2048 : Shape := ⟨2, ![32, 2048]⟩
abbrev S128x2048 : Shape := ⟨2, ![128, 2048]⟩
abbrev S1x128x2048 : Shape := ⟨3, ![1, 128, 2048]⟩
abbrev S256x2048 : Shape := ⟨2, ![256, 2048]⟩
abbrev S1024x2048 : Shape := ⟨2, ![1024, 2048]⟩
abbrev S1x1024x2048 : Shape := ⟨3, ![1, 1024, 2048]⟩
abbrev S224x1 : Shape := ⟨2, ![224, 1]⟩
abbrev S224x2048 : Shape := ⟨2, ![224, 2048]⟩
abbrev S896x2048 : Shape := ⟨2, ![896, 2048]⟩
abbrev S1x896x2048 : Shape := ⟨3, ![1, 896, 2048]⟩
abbrev S_ : Shape := ⟨0, ![]⟩

abbrev nBuf : Space → Nat
  | .hbm => 7
  | .vmem => 2
  | .smem => 1
  | _ => 0

abbrev bufTy : (tb : Table) → Fin (tcTables nBuf tb) → BufTy
  | .hbm, ⟨0, _⟩ => ⟨S4x2048, .i32⟩
  | .hbm, ⟨1, _⟩ => ⟨S4x2, .i32⟩
  | .hbm, ⟨2, _⟩ => ⟨S4x2048x2048, .i8⟩
  | .hbm, ⟨3, _⟩ => ⟨S_, .i8⟩
  | .hbm, ⟨4, _⟩ => ⟨S4x2048x2048, .i8⟩
  | .hbm, ⟨5, _⟩ => ⟨S4x2048x2048, .i1⟩
  | .hbm, ⟨6, _⟩ => ⟨S4x2048x2048, .i1⟩
  | .local _ .vmem, ⟨0, _⟩ => ⟨S1x2048x2048, .i8⟩
  | .local _ .vmem, ⟨1, _⟩ => ⟨S1x2048x2048, .i8⟩
  | .local _ .smem, ⟨0, _⟩ => ⟨S4x2, .i32⟩
  | _, _ => ⟨S4x2048, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v0 : Index := Scalar.indexCast arg0
  let c1 : Index := 1#32
  ![v0.toNat, 1]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x2048 : Shape := ⟨2, ![4, 2048]⟩
abbrev S2048 : Shape := ⟨1, ![2048]⟩
abbrev S_ : Shape := ⟨0, ![]⟩
abbrev S1 : Shape := ⟨1, ![1]⟩
abbrev S2 : Shape := ⟨1, ![2]⟩
abbrev S80 : Shape := ⟨1, ![80]⟩
abbrev S100 : Shape := ⟨1, ![100]⟩
abbrev S110 : Shape := ⟨1, ![110]⟩
abbrev S1024 : Shape := ⟨1, ![1024]⟩
abbrev S1x2048x1 : Shape := ⟨3, ![1, 2048, 1]⟩
abbrev S1x1x2048 : Shape := ⟨3, ![1, 1, 2048]⟩
abbrev S4x1x2048 : Shape := ⟨3, ![4, 1, 2048]⟩
abbrev S1x2048x2048 : Shape := ⟨3, ![1, 2048, 2048]⟩
abbrev S4x2048x2048 : Shape := ⟨3, ![4, 2048, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S2048, .i32⟩
  | .hbm, ⟨2, _⟩ => ⟨S4x2048, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S2, .i32⟩
  | .hbm, ⟨8, _⟩ => ⟨S_, .i32⟩
  | .hbm, ⟨9, _⟩ => ⟨S80, .i32⟩
  | .hbm, ⟨10, _⟩ => ⟨S4x2048, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S_, .i32⟩
  | .hbm, ⟨17, _⟩ => ⟨S100, .i32⟩
  | .hbm, ⟨18, _⟩ => ⟨S4x2048, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S_, .i32⟩
  | .hbm, ⟨25, _⟩ => ⟨S110, .i32⟩
  | .hbm, ⟨26, _⟩ => ⟨S4x2048, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1024, .i32⟩
  | .hbm, ⟨38, _⟩ => ⟨S2048, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1024, .i32⟩
  | .hbm, ⟨43, _⟩ => ⟨S2048, .i32⟩
  | .hbm, ⟨44, _⟩ => ⟨S2048, .i32⟩
  | .hbm, ⟨45, _⟩ => ⟨S1x2048x1, .i32⟩
  | .hbm, ⟨46, _⟩ => ⟨S2048, .i32⟩
  | .hbm, ⟨47, _⟩ => ⟨S1x1x2048, .i32⟩
  | .hbm, ⟨48, _⟩ => ⟨S4x1x2048, .i32⟩
  | .hbm, ⟨49, _⟩ => ⟨S4x1x2048, .i32⟩
  | .hbm, ⟨50, _⟩ => ⟨S4x1x2048, .i1⟩
  | .hbm, ⟨51, _⟩ => ⟨S4x1x2048, .i1⟩
  | .hbm, ⟨52, _⟩ => ⟨S1x2048x2048, .i32⟩
  | .hbm, ⟨53, _⟩ => ⟨S1x2048x2048, .i32⟩
  | .hbm, ⟨54, _⟩ => ⟨S1x2048x2048, .i1⟩
  | .hbm, ⟨55, _⟩ => ⟨S4x2048x2048, .i1⟩
  | .hbm, ⟨56, _⟩ => ⟨S4x2048x2048, .i1⟩
  | .hbm, ⟨57, _⟩ => ⟨S4x2048x2048, .i1⟩
  | .hbm, ⟨58, _⟩ => ⟨S1x2048x2048, .i32⟩
  | .hbm, ⟨59, _⟩ => ⟨S1x2048x2048, .i32⟩
  | .hbm, ⟨60, _⟩ => ⟨S1x2048x2048, .i1⟩
  | .hbm, ⟨61, _⟩ => ⟨S4x2048x2048, .i1⟩
  | .hbm, ⟨62, _⟩ => ⟨S4x2048x2048, .i1⟩
  | .hbm, ⟨63, _⟩ => ⟨S1x2048x1, .i32⟩
  | .hbm, ⟨64, _⟩ => ⟨S1x2048x2048, .i32⟩
  | .hbm, ⟨65, _⟩ => ⟨S1x2048x2048, .i32⟩
  | .hbm, ⟨66, _⟩ => ⟨S1x2048x2048, .i1⟩
  | .hbm, ⟨67, _⟩ => ⟨S1x2048x1, .i32⟩
  | .hbm, ⟨68, _⟩ => ⟨S1x2048x2048, .i32⟩
  | .hbm, ⟨69, _⟩ => ⟨S1x2048x2048, .i32⟩
  | .hbm, ⟨70, _⟩ => ⟨S1x2048x2048, .i1⟩
  | .hbm, ⟨71, _⟩ => ⟨S1x2048x2048, .i1⟩
  | .hbm, ⟨72, _⟩ => ⟨S4x2048x2048, .i1⟩
  | .hbm, ⟨73, _⟩ => ⟨S4x2048x2048, .i1⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_c_3 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_c_9 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_10 : Ref sig .tc := ⟨.hbm, 34, rfl⟩
abbrev main_v22 : Ref sig .tc := ⟨.hbm, 35, rfl⟩
abbrev main_c_11 : Ref sig .tc := ⟨.hbm, 36, rfl⟩
abbrev main_v23 : Ref sig .tc := ⟨.hbm, 37, rfl⟩
abbrev main_v24 : Ref sig .tc := ⟨.hbm, 38, rfl⟩
abbrev main_c_12 : Ref sig .tc := ⟨.hbm, 39, rfl⟩
abbrev main_v25 : Ref sig .tc := ⟨.hbm, 40, rfl⟩
abbrev main_c_13 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.Words.lean ====
/- The mask as a function of three natural numbers, and the word arithmetic by which the kernel reaches it.

   `allowed b q kv` says that query row `q` may look at key column `kv` in batch row `b`. The kernel never forms one mask byte alone:
   it forms 32-bit words, each of four bytes, one byte for each of four consecutive query rows, and reads them as bytes afterwards.
   This module shows, for words alone, that byte `p` of each kind of word is 1 where the mask says so and 0 elsewhere. Nothing here
   names a program. -/
module

public import Idealize.ShloMosaic.Lib.BitcastPair
public import Idealize.ShloMosaic.Lib.ValueIdxCore
public import Idealize.ShloMosaic.PureOps.Float
public import Idealize.ShloMosaic.PureOps.Vector
public import Mathlib.Tactic.IntervalCases

@[expose] public section

namespace Cert.Mask

open Idealize.ShloMosaic

/-! ## The mask -/

/-- The length of the padding at the start of batch row `b`. -/
def padEnd (b : Nat) : Nat := if b = 0 then 80 else if b = 1 then 100 else if b = 2 then 110 else 0

/-- Query row `q` of batch row `b` may look at key column `kv`: the column is past the padding and not after the row; or it is the
    row's own; or both lie in the image, whose rows see all of its columns. -/
def allowed (b q kv : Nat) : Prop :=
  (padEnd b ≤ kv ∧ kv ≤ q) ∨ kv = q ∨ (128 ≤ q ∧ q < 1152 ∧ 128 ≤ kv ∧ kv < 1152)

instance (b q kv : Nat) : Decidable (allowed b q kv) := by unfold allowed; infer_instance

/-- The padding ends before the image begins. -/
theorem padEnd_le (b : Nat) : padEnd b ≤ 110 := by unfold padEnd; split_ifs <;> omega

/-- A byte that is 1 where `p` holds and 0 elsewhere. -/
def flag (p : Prop) [Decidable p] : BitVec 8 := if p then 1#8 else 0#8

/-- The flag of a proposition depends on its truth alone. -/
theorem flag_congr {p q : Prop} [Decidable p] [Decidable q] (h : p ↔ q) : flag p = flag q := by
  unfold flag; simp only [h]

/-- A flag differs from zero exactly where its proposition holds. -/
theorem flag_ne_zero (p : Prop) [Decidable p] : IntOp.cmpi .ne (flag p) 0#8 = BitVec.ofBool (decide p) := by
  unfold flag; by_cases h : p <;> simp only [h, if_true, if_false, decide_true, decide_false] <;> decide

/-! ## Small words compared as signed integers -/

/-- A small natural number as a word, read signed. -/
theorem toInt_small {n : Nat} (h : n < 2 ^ 31) : (BitVec.ofNat 32 n).toInt = (n : Int) := by
  rw [BitVec.toInt_eq_toNat_cond, BitVec.toNat_ofNat, Nat.mod_eq_of_lt (by omega), if_pos (by omega)]

/-- Signed «below» of small words. -/
theorem slt_small {a b : Nat} (ha : a < 2 ^ 31) (hb : b < 2 ^ 31) :
    (BitVec.ofNat 32 a).slt (BitVec.ofNat 32 b) = decide (a < b) := by
  rw [BitVec.slt, toInt_small ha, toInt_small hb]; exact decide_eq_decide.2 (by omega)

/-- Signed «at most» of small words. -/
theorem sle_small {a b : Nat} (ha : a < 2 ^ 31) (hb : b < 2 ^ 31) :
    (BitVec.ofNat 32 a).sle (BitVec.ofNat 32 b) = decide (a ≤ b) := by
  rw [BitVec.sle, toInt_small ha, toInt_small hb]; exact decide_eq_decide.2 (by omega)

/-- The signed minimum of small words. -/
theorem minsi_small {a b : Nat} (ha : a < 2 ^ 31) (hb : b < 2 ^ 31) :
    IntOp.minsi (BitVec.ofNat 32 a) (BitVec.ofNat 32 b) = BitVec.ofNat 32 (min a b) := by
  unfold IntOp.minsi
  rw [slt_small ha hb]
  by_cases h : a < b
  · rw [if_pos (decide_eq_true h), Nat.min_eq_left (by omega)]
  · rw [if_neg (by simp only [h, decide_false]; decide), Nat.min_eq_right (by omega)]

/-- The compare «at least» of small words. -/
theorem cmpi_sge_small {a b : Nat} (ha : a < 2 ^ 31) (hb : b < 2 ^ 31) :
    IntOp.cmpi .sge (BitVec.ofNat 32 a) (BitVec.ofNat 32 b) = BitVec.ofBool (decide (b ≤ a)) := by
  unfold IntOp.cmpi; dsimp only; rw [sle_small hb ha]

/-- The compare «at most» of small words. -/
theorem cmpi_sle_small {a b : Nat} (ha : a < 2 ^ 31) (hb : b < 2 ^ 31) :
    IntOp.cmpi .sle (BitVec.ofNat 32 a) (BitVec.ofNat 32 b) = BitVec.ofBool (decide (a ≤ b)) := by
  unfold IntOp.cmpi; dsimp only; rw [sle_small ha hb]

/-- The compare «below» of small words. -/
theorem cmpi_slt_small {a b : Nat} (ha : a < 2 ^ 31) (hb : b < 2 ^ 31) :
    IntOp.cmpi .slt (BitVec.ofNat 32 a) (BitVec.ofNat 32 b) = BitVec.ofBool (decide (a < b)) := by
  unfold IntOp.cmpi; dsimp only; rw [slt_small ha hb]

/-- The compare «equal» of small words. -/
theorem cmpi_eq_small {a b : Nat} (ha : a < 2 ^ 31) (hb : b < 2 ^ 31) :
    IntOp.cmpi .eq (BitVec.ofNat 32 a) (BitVec.ofNat 32 b) = BitVec.ofBool (decide (a = b)) := by
  unfold IntOp.cmpi; dsimp only
  congr 1
  rw [Bool.eq_iff_iff, beq_iff_eq, decide_eq_true_iff]
  exact ⟨fun h => by have := congrArg BitVec.toInt h; rw [toInt_small ha, toInt_small hb] at this; omega, fun h => by rw [h]⟩

/-- The conjunction of two one-bit answers. -/
theorem andi_ofBool (a b : Bool) : IntOp.andi (BitVec.ofBool a) (BitVec.ofBool b) = BitVec.ofBool (a && b) := by
  cases a <;> cases b <;> decide

/-- The disjunction of two one-bit answers. -/
theorem ori_ofBool (a b : Bool) : IntOp.ori (BitVec.ofBool a) (BitVec.ofBool b) = BitVec.ofBool (a || b) := by
  cases a <;> cases b <;> decide

/-- The negation of a one-bit answer. -/
theorem not_ofBool (a : Bool) : ~~~(BitVec.ofBool a) = BitVec.ofBool (!a) := by
  cases a <;> decide

/-- A choice by a one-bit answer. -/
theorem select_ofBool {α : Type} (a : Bool) (x y : α) : Scalar.select (BitVec.ofBool a) x y = if a = true then x else y := by
  unfold Scalar.select; cases a <;> rfl

/-! ## The bytes of the three kinds of word -/

/-- Four flags put in four bytes of one word. -/
def four (b0 b1 b2 b3 : Bool) : BitVec 32 :=
  IntOp.ori (IntOp.ori (IntOp.ori (IntOp.ori 0#32 (if b0 = true then 1#32 else 0#32)) (if b1 = true then 256#32 else 0#32))
    (if b2 = true then 65536#32 else 0#32)) (if b3 = true then 16777216#32 else 0#32)

/-- Byte `p` of four flags is flag `p`. -/
theorem four_byte (f : Nat → Bool) (p : Nat) (hp : p < 4) :
    (four (f 0) (f 1) (f 2) (f 3)).extractLsb' (8 * p) 8 = flag (f p = true) := by
  interval_cases p
  · generalize f 0 = a, f 1 = b, f 2 = c, f 3 = d; revert a b c d; decide
  · generalize f 0 = a, f 1 = b, f 2 = c, f 3 = d; revert a b c d; decide
  · generalize f 0 = a, f 1 = b, f 2 = c, f 3 = d; revert a b c d; decide
  · generalize f 0 = a, f 1 = b, f 2 = c, f 3 = d; revert a b c d; decide

/-- The word of four ones, kept or dropped whole: each byte is the one flag. -/
theorem whole_byte (b : Bool) (p : Nat) (hp : p < 4) :
    (if b = true then 16843009#32 else 0#32 : BitVec 32).extractLsb' (8 * p) 8 = flag (b = true) := by
  interval_cases p <;> revert b <;> decide

/-- The word of four ones shifted up by `c` bytes, kept or dropped: byte `p` is 1 where the word is kept and `c` is at most `p`. -/
theorem shifted_byte (b : Bool) (c p : Nat) (hc : c < 4) (hp : p < 4) :
    (if b = true then IntOp.shli .vector 16843009#32 (IntOp.muli (BitVec.ofNat 32 c) 8#32) else 0#32 : BitVec 32).extractLsb' (8 * p) 8
      = flag (b = true ∧ c ≤ p) := by
  interval_cases c <;> interval_cases p <;> revert b <;> decide

/-! ## The distance from a group's first row, cut to 0 … 3 -/

/-- The difference of two small words, read signed. -/
theorem toInt_sub_small {a b : Nat} (ha : a < 2 ^ 30) (hb : b < 2 ^ 30) :
    (BitVec.ofNat 32 a - BitVec.ofNat 32 b).toInt = (a : Int) - b := by
  rw [BitVec.toInt_sub, toInt_small (by omega), toInt_small (by omega)]
  exact Int.bmod_eq_of_le (by omega) (by omega)

/-- The difference compared with 3. -/
theorem sub_sle_three {a b : Nat} (ha : a < 2 ^ 30) (hb : b < 2 ^ 30) :
    IntOp.cmpi .sle (BitVec.ofNat 32 a - BitVec.ofNat 32 b) 3#32 = BitVec.ofBool (decide (a ≤ b + 3)) := by
  unfold IntOp.cmpi; dsimp only
  rw [BitVec.sle, toInt_sub_small ha hb, show (3#32 : BitVec 32).toInt = 3 from by decide]
  exact congrArg BitVec.ofBool (decide_eq_decide.2 (by omega))

/-- The difference raised to 0 and lowered to 3 is the difference of natural numbers, at most 3. -/
theorem clip_sub {a b : Nat} (ha : a < 2 ^ 30) (hb : b < 2 ^ 30) :
    IntOp.minsi (IntOp.maxsi (BitVec.ofNat 32 a - BitVec.ofNat 32 b) 0#32) 3#32 = BitVec.ofNat 32 (min (a - b) 3) := by
  have hm : IntOp.maxsi (BitVec.ofNat 32 a - BitVec.ofNat 32 b) 0#32 = BitVec.ofNat 32 (a - b) := by
    apply BitVec.eq_of_toInt_eq
    rw [toInt_small (by omega)]
    unfold IntOp.maxsi
    rw [BitVec.slt, toInt_sub_small ha hb, show (0#32 : BitVec 32).toInt = 0 from by decide]
    by_cases h : b < a
    · rw [if_pos (decide_eq_true (by omega)), toInt_sub_small ha hb]; omega
    · rw [if_neg (by rw [decide_eq_false (by omega)]; decide), show (0#32 : BitVec 32).toInt = 0 from by decide]; omega
  rw [hm, show (3#32 : BitVec 32) = BitVec.ofNat 32 3 from rfl, minsi_small (by omega) (by omega)]

/-! ## Words read as bytes -/

/-- A table of words read as a table of bytes with four times the rows: the byte at row `P`, column `l`, is byte `P % 4` of the word
    at row `P / 4` of that column, byte 0 the lowest. -/
theorem bytes_of_words {R r n : Nat} (x : (⟨2, ![r, n]⟩ : Shape).Idx → BitVec 32)
    (h : (⟨2, ![r, n]⟩ : Shape).Bitcasts 32 ⟨2, ![R, n]⟩ 8) (P : Fin R) (l : Fin n) (a : Fin r) (ha : a.val = P.val / 4) :
    bitcast ⟨2, ![R, n]⟩ 8 x h (ValueIdx.ix2 P l) = (x (ValueIdx.ix2 a l)).extractLsb' (8 * (P.val % 4)) 8 := by
  have hrow : (⟨2, ![R, n]⟩ : Shape).row (ValueIdx.ix2 P l) = P.val := rfl
  apply BitVec.eq_of_getLsbD_eq
  intro i hi
  rw [bitcast_getLsbD x h _ i hi (by decide), BitVec.getLsbD_extractLsb']
  have e1 : (P.val * 8 + i) / 32 = a.val := by omega
  have e2 : (P.val * 8 + i) % 32 = 8 * (P.val % 4) + i := by omega
  have hidx : ∀ hp, h.srcIdx (ValueIdx.ix2 P l) (((⟨2, ![R, n]⟩ : Shape).row (ValueIdx.ix2 P l) * 8 + i) / 32) hp = ValueIdx.ix2 a l := by
    intro hp
    funext c
    match c with
    | ⟨0, _⟩ => exact Fin.ext ((h.srcIdx_row _ _ _ ⟨0, Nat.zero_lt_two⟩ rfl).trans (by rw [hrow]; exact e1))
    | ⟨1, _⟩ => exact Fin.ext (h.srcIdx_other _ _ _ ⟨1, Nat.one_lt_two⟩ (by show ¬ 1 + 2 = 2; omega))
  rw [hidx, hrow, e2]
  simp only [hi, decide_true, Bool.true_and]

end Cert.Mask
-- ==== Proof.Payload.lean ====
/- What the kernel's three stores hold, byte by byte. In one grid point the kernel stores the first 128 query rows, then the 1024 rows
   of the image, then the last 896 rows; each store's contents is a table of words read as bytes. Where the length of the padding is
   the word `BitVec.ofNat 32 (padEnd b)`, the byte at query row `q`, key column `kv` is `flag (allowed b q kv)`, in each of the three. -/
module

public import proofs.«01_k».proof.Proof.Words
public import proofs.«01_k».proof.Proof.Gen.KernelIdeal.Skeleton
public import Idealize.ShloMosaic.Lib.Pipeline.Value
public import Idealize.ShloMosaic.Lib.Pointwise.Elementwise

@[expose] public section

set_option maxRecDepth 16384

noncomputable section

namespace Cert.Mask

open Idealize.ShloMosaic Idealize.ShloMosaic.ValueIdx Cert.KernelIdeal Cert.KernelIdeal.Gen

variable {F : FTy → Type} [FloatOps F]

/-- A column repeated along the lanes reads, at any lane, its own row. -/
theorem column_at {α : Type} {r n : Nat} (hr : r ≠ 1) (x : (⟨2, ![r, 1]⟩ : Shape).Idx → α)
    (h : (⟨2, ![r, 1]⟩ : Shape).Broadcasts ⟨2, ![r, n]⟩) (a : Fin r) (l : Fin n) :
    broadcastTo ⟨2, ![r, n]⟩ x h (ix2 a l) = x (ix2 a (0 : Fin 1)) := by
  refine broadcastTo_apply x h _ _ fun c => ?_
  match c with
  | ⟨0, _⟩ => exact (if_neg hr).symm
  | ⟨1, _⟩ => exact (if_pos rfl).symm

/-- A table stored behind one more axis of length 1 reads, at row `P`, what it held there. -/
theorem stored_at {α : Type} {R n : Nat} (x : (⟨2, ![R, n]⟩ : Shape).Idx → α)
    (h : (⟨2, ![R, n]⟩ : Shape).ShapeCasts ⟨3, ![1, R, n]⟩) (P : Fin R) (l : Fin n) :
    shapeCast ⟨3, ![1, R, n]⟩ x h (ix3 (0 : Fin 1) P l) = x (ix2 P l) := by
  refine (shapeCast_addUnit_apply (n := 2) ![R, n] x h (ix3 (0 : Fin 1) P l)).trans (congrArg x (funext fun c => ?_))
  match c with
  | ⟨0, _⟩ => rfl
  | ⟨1, _⟩ => rfl

/-! ## The first 128 rows -/

/-- Four times the number of the group: the query row of the group's lowest byte. -/
theorem base_at (a : Fin 32) : k0_pay2 (ix2 a (0 : Fin 1)) = BitVec.ofNat 32 (4 * a.val) := by
  unfold k0_pay2
  show IntOp.muli (iota .tc S32x1 32 [0] iota_S32x1_d0_w32 (ix2 a (0 : Fin 1))) 4#32 = _
  rw [iota_single_apply]
  show BitVec.ofNat 32 a.val * BitVec.ofNat 32 4 = _
  rw [← BitVec.ofNat_mul, Nat.mul_comm]

/-- The query row of byte `k` of the group. -/
theorem row_at (a : Fin 32) (k : Nat) :
    IntOp.addi (BitVec.ofNat 32 (4 * a.val)) (BitVec.ofNat 32 k) = BitVec.ofNat 32 (4 * a.val + k) :=
  (BitVec.ofNat_add _ _).symm

/-- One answer of the first rows: key column `l` lies between the smaller of query row `q` and the padding's end, and `q`. -/
def inBand (pe q l : Nat) : Bool := decide (min q pe ≤ l) && decide (l ≤ q)

/-- The two compares by which the kernel asks it. -/
theorem band_at {pe q l : Nat} (hpe : pe < 2 ^ 31) (hq : q < 2 ^ 31) (hl : l < 2 ^ 31) :
    IntOp.andi (IntOp.cmpi .sge (BitVec.ofNat 32 l) (IntOp.minsi (BitVec.ofNat 32 q) (BitVec.ofNat 32 pe)))
      (IntOp.cmpi .sle (BitVec.ofNat 32 l) (BitVec.ofNat 32 q)) = BitVec.ofBool (inBand pe q l) := by
  rw [minsi_small hq hpe, cmpi_sge_small hl (by omega), cmpi_sle_small hl hq, andi_ofBool, inBand]

/-- One flag of the first rows, as the kernel forms it for byte `k` of every group, read at one group and lane. -/
theorem head_flag {pe : Nat} (hpe : pe < 2 ^ 31) (v : BitVec 32) (hv : v = BitVec.ofNat 32 pe) (k : Nat) (hk : k < 4) (w : BitVec 32)
    (a : Fin 32) (l : Fin 2048) :
    select
      (andi
        (cmpi .sge (iota .tc S32x2048 32 [1] iota_S32x2048_d1_w32)
          (broadcastTo S32x2048 (minsi (addi k0_pay2 (broadcast S32x1 (BitVec.ofNat 32 k))) (broadcast S32x1 v)) broadcasts_S32x1_S32x2048))
        (cmpi .sle (iota .tc S32x2048 32 [1] iota_S32x2048_d1_w32)
          (broadcastTo S32x2048 (addi k0_pay2 (broadcast S32x1 (BitVec.ofNat 32 k))) broadcasts_S32x1_S32x2048)))
      (broadcast S32x2048 w) (broadcast S32x2048 0#32) (ix2 a l)
      = if inBand pe (4 * a.val + k) l.val = true then w else 0#32 := by
  have hl : iota .tc S32x2048 32 [1] iota_S32x2048_d1_w32 (ix2 a l) = BitVec.ofNat 32 l.val := iota_single_apply _ _ _ _ _ _
  have hr : addi k0_pay2 (broadcast S32x1 (BitVec.ofNat 32 k)) (ix2 a (0 : Fin 1)) = BitVec.ofNat 32 (4 * a.val + k) := by
    show IntOp.addi (k0_pay2 (ix2 a (0 : Fin 1))) (BitVec.ofNat 32 k) = _
    rw [base_at, row_at]
  have hb1 := column_at (n := 2048) (by decide : (32 : Nat) ≠ 1)
    (minsi (addi k0_pay2 (broadcast S32x1 (BitVec.ofNat 32 k))) (broadcast S32x1 v)) broadcasts_S32x1_S32x2048 a l
  have hb2 := column_at (n := 2048) (by decide : (32 : Nat) ≠ 1)
    (addi k0_pay2 (broadcast S32x1 (BitVec.ofNat 32 k))) broadcasts_S32x1_S32x2048 a l
  have hm : minsi (addi k0_pay2 (broadcast S32x1 (BitVec.ofNat 32 k))) (broadcast S32x1 v) (ix2 a (0 : Fin 1))
      = IntOp.minsi (BitVec.ofNat 32 (4 * a.val + k)) (BitVec.ofNat 32 pe) := by
    show IntOp.minsi (addi k0_pay2 (broadcast S32x1 (BitVec.ofNat 32 k)) (ix2 a (0 : Fin 1))) v = _
    rw [hr, hv]
  show Scalar.select (IntOp.andi
      (IntOp.cmpi .sge (iota .tc S32x2048 32 [1] iota_S32x2048_d1_w32 (ix2 a l)) (broadcastTo S32x2048 _ broadcasts_S32x1_S32x2048 (ix2 a l)))
      (IntOp.cmpi .sle (iota .tc S32x2048 32 [1] iota_S32x2048_d1_w32 (ix2 a l)) (broadcastTo S32x2048 _ broadcasts_S32x1_S32x2048 (ix2 a l))))
    w 0#32 = _
  have h1 := a.isLt
  have h2 := l.isLt
  rw [hl, hb1.trans hm, hb2.trans hr, band_at hpe (by omega) (by omega), select_ofBool]

/-- The first store: rows 0 … 127. -/
theorem head_at (b : Nat) (P : Fin 128) (l : Fin 2048) (v : Elt F .i32) (hv : v = BitVec.ofNat 32 (padEnd b)) :
    k0_pay4 (F := F) v k0_pay2 (iota .tc S32x2048 32 [1] iota_S32x2048_d1_w32) (k0_pay3 (F := F) v) 3#32 (ix3 (0 : Fin 1) P l)
      = flag (allowed b P.val l.val) := by
  have hP := P.isLt
  have hpe := padEnd_le b
  let a : Fin 32 := ⟨P.val / 4, by omega⟩
  unfold k0_pay4
  dsimp only
  refine (stored_at _ _ P l).trans ((bytes_of_words _ _ P l a rfl).trans ?_)
  have hf := fun k hk w => head_flag (pe := padEnd b) (by omega) v hv k hk w a l
  have hw := four_byte (fun k => inBand (padEnd b) (4 * a.val + k) l.val) (P.val % 4) (by omega)
  unfold four at hw
  refine (congrArg (fun z : BitVec 32 => z.extractLsb' (8 * (P.val % 4)) 8) ?_).trans (hw.trans (flag_congr ?_))
  · rw [← hf 0 (by omega), ← hf 1 (by omega), ← hf 2 (by omega), ← hf 3 (by omega)]
    rfl
  · have e : 4 * a.val + P.val % 4 = P.val := by show 4 * (P.val / 4) + P.val % 4 = P.val; omega
    unfold inBand allowed
    rw [e, Bool.and_eq_true, decide_eq_true_iff, decide_eq_true_iff]
    omega

/-! ## The image -/

/-- The second store: rows 128 … 1151, all of whose rows are alike. -/
theorem image_at (b : Nat) (P : Fin 1024) (l : Fin 2048) (v : Elt F .i32) (hv : v = BitVec.ofNat 32 (padEnd b)) :
    k0_pay5 (F := F) v (ix3 (0 : Fin 1) P l) = flag (allowed b (128 + P.val) l.val) := by
  have hP := P.isLt
  have hl := l.isLt
  have hpe := padEnd_le b
  let a : Fin 256 := ⟨P.val / 4, by omega⟩
  unfold k0_pay5
  dsimp only
  refine (stored_at _ _ P l).trans ((bytes_of_words _ _ P l a rfl).trans ?_)
  refine (congrArg (fun z : BitVec 32 => z.extractLsb' (8 * (P.val % 4)) 8) ?_).trans
    ((whole_byte (decide (padEnd b ≤ l.val) && decide (l.val < 1152)) (P.val % 4) (by omega)).trans (flag_congr ?_))
  · have hi : iota .tc S256x2048 32 [1] iota_S256x2048_d1_w32 (ix2 a l) = BitVec.ofNat 32 l.val := iota_single_apply _ _ _ _ _ _
    show Scalar.select (IntOp.andi (IntOp.cmpi .sge (iota .tc S256x2048 32 [1] iota_S256x2048_d1_w32 (ix2 a l)) v)
      (IntOp.cmpi .slt (iota .tc S256x2048 32 [1] iota_S256x2048_d1_w32 (ix2 a l)) (BitVec.ofNat 32 1152))) 16843009#32 0#32 = _
    rw [hi, hv, cmpi_sge_small (by omega) (by omega), cmpi_slt_small (by omega) (by omega), andi_ofBool, select_ofBool]
  · unfold allowed
    rw [Bool.and_eq_true, decide_eq_true_iff, decide_eq_true_iff]
    omega

/-! ## The last 896 rows -/

/-- The distance of key column `l` from the first query row of group `a` of the last rows. -/
theorem dist_at (a : Fin 224) (l : Fin 2048) :
    k0_pay6 (ix2 a l) = BitVec.ofNat 32 l.val - BitVec.ofNat 32 (1152 + 4 * a.val) := by
  unfold k0_pay6
  dsimp only
  have hi : iota .tc S224x2048 32 [1] iota_S224x2048_d1_w32 (ix2 a l) = BitVec.ofNat 32 l.val := iota_single_apply _ _ _ _ _ _
  have h0 : iota .tc S224x1 32 [0] iota_S224x1_d0_w32 (ix2 a (0 : Fin 1)) = BitVec.ofNat 32 a.val := iota_single_apply _ _ _ _ _ _
  have hc := column_at (n := 2048) (by decide : (224 : Nat) ≠ 1)
    (addi (broadcast S224x1 1152#32) (muli (iota .tc S224x1 32 [0] iota_S224x1_d0_w32) (broadcast S224x1 4#32))) broadcasts_S224x1_S224x2048 a l
  have hb : addi (broadcast S224x1 1152#32) (muli (iota .tc S224x1 32 [0] iota_S224x1_d0_w32) (broadcast S224x1 4#32)) (ix2 a (0 : Fin 1))
      = BitVec.ofNat 32 (1152 + 4 * a.val) := by
    show BitVec.ofNat 32 1152 + iota .tc S224x1 32 [0] iota_S224x1_d0_w32 (ix2 a (0 : Fin 1)) * BitVec.ofNat 32 4 = _
    rw [h0, ← BitVec.ofNat_mul, ← BitVec.ofNat_add, Nat.mul_comm]
  show iota .tc S224x2048 32 [1] iota_S224x2048_d1_w32 (ix2 a l) - broadcastTo S224x2048 _ broadcasts_S224x1_S224x2048 (ix2 a l) = _
  rw [hi, hc.trans hb]

/-- The same distance, cut to 0 … 3. -/
theorem clip_at (a : Fin 224) (l : Fin 2048) :
    k0_pay7 (ix2 a l) = BitVec.ofNat 32 (min (l.val - (1152 + 4 * a.val)) 3) := by
  have h1 := a.isLt
  have h2 := l.isLt
  unfold k0_pay7
  show IntOp.minsi (IntOp.maxsi (k0_pay6 (ix2 a l)) 0#32) 3#32 = _
  rw [dist_at, clip_sub (by omega) (by omega)]

/-- The third store: rows 1152 … 2047. -/
theorem tail_at (b : Nat) (P : Fin 896) (l : Fin 2048) (v : Elt F .i32) (hv : v = BitVec.ofNat 32 (padEnd b)) :
    k0_pay1 (F := F) v (iota .tc S224x2048 32 [1] iota_S224x2048_d1_w32) k0_pay6 k0_pay7 8#32 (ix3 (0 : Fin 1) P l)
      = flag (allowed b (1152 + P.val) l.val) := by
  have hP := P.isLt
  have hl := l.isLt
  have hpe := padEnd_le b
  let a : Fin 224 := ⟨P.val / 4, by omega⟩
  have ha : a.val = P.val / 4 := rfl
  unfold k0_pay1
  dsimp only
  refine (stored_at _ _ P l).trans ((bytes_of_words _ _ P l a rfl).trans ?_)
  refine (congrArg (fun z : BitVec 32 => z.extractLsb' (8 * (P.val % 4)) 8) ?_).trans
    ((shifted_byte (decide (l.val ≤ (1152 + 4 * a.val) + 3) && decide (padEnd b ≤ l.val)) (min (l.val - (1152 + 4 * a.val)) 3) (P.val % 4)
      (by omega) (by omega)).trans (flag_congr ?_))
  · have hi : iota .tc S224x2048 32 [1] iota_S224x2048_d1_w32 (ix2 a l) = BitVec.ofNat 32 l.val := iota_single_apply _ _ _ _ _ _
    show Scalar.select (IntOp.andi (IntOp.cmpi .sle (k0_pay6 (ix2 a l)) 3#32)
      (IntOp.cmpi .sge (iota .tc S224x2048 32 [1] iota_S224x2048_d1_w32 (ix2 a l)) v))
      (IntOp.shli .vector 16843009#32 (IntOp.muli (k0_pay7 (ix2 a l)) 8#32)) 0#32 = _
    rw [hi, hv, dist_at, clip_at, sub_sle_three (by omega) (by omega), cmpi_sge_small (by omega) (by omega), andi_ofBool, select_ofBool]
  · unfold allowed
    rw [Bool.and_eq_true, decide_eq_true_iff, decide_eq_true_iff, ha]
    omega

end Cert.Mask

end
-- ==== Proof.Block.lean ====
/- What one grid point leaves in its block, and what the whole byte array holds after the run. Grid point `t` reads the length of the
   padding from its row of the table of two columns, and its three stores tile the block of batch row `t`; the four blocks tile the
   array. So the array's byte at `(b, q, kv)` is `flag (allowed b q kv)`. -/
module

public import proofs.«01_k».proof.Proof.Payload
public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.Mask

open Idealize.ShloMosaic Idealize.ShloMosaic.ValueIdx Idealize.ShloMosaic.TcCoe Cert.KernelIdeal Cert.KernelIdeal.Gen
open Idealize.ShloMosaic.Tactic
open Idealize.ShloMosaic.Pipeline (Dat Cfg Window)

variable {F : FTy → Type} [FloatOps F]
variable (m : (ℓ : Loc nD τ sig) → Buf (Elt F) ℓ)

/-! ## The length of the padding -/

/-- The table of the paddings' begins and ends, as the region finds it. -/
theorem table_eq (c : Dev nD) : V m c main_c = fun i => lit0 (S4x2.rowMajor i) := by
  show StableHlo.after (List.flatten [hostOps0]) (fun b => m (c, b)) (Proc.devRef .tc main_c) = _
  simp only [List.flatten_cons, List.flatten_nil, List.append_nil, hostOps0]
  after_results
  rfl

/-- Window 0's block is the whole table, at every grid point. -/
theorem iblk_eq (c : Dev nD) (t : Fin cfg0.N) : iblk m c 0 t = fun i => lit0 (S4x2.rowMajor i) := by
  have hz : (fun a => (win0_0.index t) a * main_c.ty.shape.size a) = fun _ => 0 := by
    have h : ∀ (t : Fin grid0.N) (a : Fin 2), win0_0.index t a * S4x2.size a = 0 := by decide +kernel
    exact funext fun a => h t a
  have hr := fun f => Memref.read_access_unit_zero (Elt F) main_c hz (fun a => by rw [congrFun hz a]; exact (Nat.zero_add _).le) f
  unfold iblk
  exact (hr _).trans (table_eq m c)

/-- The word that grid point `t` loads from row `t` of the table's second column. -/
theorem table_word (t : Fin grid0.N) :
    lit0 (S4x2.rowMajor ((Rect.unit (s := S4x2) (k0_off1 (grid0.coords t)) S1x1.size (Cert.KernelIdeal.Facts₀.k0_off1_inb (grid0.coords t))).idx
      (Shape.Idx.first (Nat.lt_of_lt_of_eq Nat.one_pos Cert.KernelIdeal.Facts₀.numel1_S1x1.symm)))) = BitVec.ofNat 32 (padEnd t.val) := by
  revert t; decide +kernel

/-! ## One block -/

/-- An element of a store into rows `o` … `o + R - 1` of the block lies at its own row past `o`, in its own column. -/
theorem store_idx {R o : Nat} (inb : ∀ a, (![0, o, 0] : Fin 3 → Nat) a + (![1, R, 2048] : Fin 3 → Nat) a ≤ S1x2048x2048.size a)
    (P : Fin R) (l : Fin 2048) :
    (((Rect.unit (s := S1x2048x2048) ![0, o, 0] ![1, R, 2048] inb).emb (ix3 (0 : Fin 1) P l)) 1).val = o + P.val
      ∧ (((Rect.unit (s := S1x2048x2048) ![0, o, 0] ![1, R, 2048] inb).emb (ix3 (0 : Fin 1) P l)) 2).val = l.val := by
  have h := Rect.idx_unit_val (s := S1x2048x2048) ![0, o, 0] ![1, R, 2048] inb (ix3 (0 : Fin 1) P l)
  exact ⟨h 1, (h 2).trans (Nat.zero_add _)⟩

/-- An index of a table behind one more axis of length 1 is a row and a column. -/
theorem row_column {R n : Nat} (x : (⟨3, ![1, R, n]⟩ : Shape).Idx) : ∃ (P : Fin R) (l : Fin n), x = ix3 (0 : Fin 1) P l := by
  refine ⟨x 1, x 2, (eq_ix3 x).trans ?_⟩
  rw [Subsingleton.elim (α := Fin 1) (x 0) 0]
  rfl

/-- The block after grid point `t`: batch row `t`'s mask, a byte for each query row and key column. -/
theorem outs_eq (c : Dev nD) (t : Fin cfg0.N) :
    outsAt0 m c t = fun y : S1x2048x2048.Idx => flag (allowed t.val (y 1).val (y 2).val) := by
  unfold outsAt0 out0_A_1
  rw [View.read_writes_eq_canon _ _ _ (cover0_A_1 c _ _ _ _ _ _)]
  funext y
  refine View.canon_apply_of_pieces (fun y : S1x2048x2048.Idx => flag (allowed t.val (y 1).val (y 2).val)) _ ?_ y (cover0_A_1 c _ _ _ _ _ (iblk m c 0 t) y)
  unfold kernelRun0_A
  dsimp only
  sl_unfold_words
  simp only [View.readAt_eq_ld, (hs0_0 t).read_unread, iblk_eq]
  have hv := table_word t
  intro p hp
  simp only [List.mem_cons, List.mem_nil_iff, or_false] at hp
  rcases hp with rfl | rfl | rfl
  · intro x
    obtain ⟨P, l, rfl⟩ := row_column (R := 896) (n := 2048) x
    have hi := store_idx (R := 896) (o := 1152) Cert.KernelIdeal.Facts₀.inb_S1x2048x2048_S1x896x2048_0_1152_0 P l
    refine (tail_at (F := F) t.val P l _ hv).trans ?_
    dsimp only
    rw [hi.1, hi.2]
  · intro x
    obtain ⟨P, l, rfl⟩ := row_column (R := 1024) (n := 2048) x
    have hi := store_idx (R := 1024) (o := 128) Cert.KernelIdeal.Facts₀.inb_S1x2048x2048_S1x1024x2048_0_128_0 P l
    refine (image_at (F := F) t.val P l _ hv).trans ?_
    dsimp only
    rw [hi.1, hi.2]
  · intro x
    obtain ⟨P, l, rfl⟩ := row_column (R := 128) (n := 2048) x
    have hi := store_idx (R := 128) (o := 0) Cert.KernelIdeal.Facts₀.inb_S1x2048x2048_S1x128x2048_0_0_0 P l
    refine (head_at (F := F) t.val P l _ hv).trans ?_
    dsimp only
    rw [hi.1, hi.2, Nat.zero_add]

/-! ## The whole array -/

/-- The byte array of all four batch rows. -/
def bytes : S4x2048x2048.Idx → BitVec 8 := fun i => flag (allowed (i 0).val (i 1).val (i 2).val)

/-- The block of grid point `t` is batch row `t`, all of it. -/
theorem index_eq : ∀ (t : Fin grid0.N) (a : Fin 3), win0_1.index t a = (![t.val, 0, 0] : Fin 3 → Nat) a := by decide +kernel

/-- Every grid point writes its block back. -/
theorem flush_all : ∀ t : Fin cfg0.N, (cfg0.win 1).flush t = true := by decide +kernel

/-- An index lies in the block of grid point `t` where its coordinates lie in that block's ranges. -/
theorem mem_blk (t : Fin cfg0.N) (i : S4x2048x2048.Idx) :
    i ∈ ((cfg0.win 1).blk t).view.set ↔ ∀ a, win0_1.index t a * S1x2048x2048.size a ≤ (i a).val
      ∧ (i a).val < win0_1.index t a * S1x2048x2048.size a + S1x2048x2048.size a := by
  show i ∈ ((View.whole main_v0).slice (win0_1.rect t)).set ↔ _
  rw [View.set_slice_whole, Rect.mem_set_unit]

/-- What grid point `t` writes back is its block of `bytes`. -/
theorem flushed_eq (c : Dev nD) (t : Fin cfg0.N) :
    (dats (F := F) m 0 c).flushed (1 : Fin 2) t = ((cfg0.win 1).blk t).view.read (Elt F) bytes := by
  show (cfg0.win (1 : Fin 2)).cut _ ((dats (F := F) m 0 c).after 1 t) = _
  rw [after0_1, outs_eq]
  funext y
  have he : ∀ a : Fin 3, ((win0_1.rect t).emb y a).val = win0_1.index t a * S1x2048x2048.size a + (y a).val := fun a =>
    Rect.idx_unit_val _ _ _ y a
  show flag (allowed t.val (y 1).val (y 2).val) = bytes ((win0_1.rect t).emb y)
  unfold bytes
  have h0 := (he 0).trans (by rw [index_eq])
  have h1 := (he 1).trans (by rw [index_eq])
  have h2 := (he 2).trans (by rw [index_eq])
  have hy : (y 0).val = 0 := Nat.lt_one_iff.1 (y 0).isLt
  rw [h0, h1, h2, hy]
  show _ = flag (allowed (t.val * 1 + 0) (0 * 2048 + (y 1).val) (0 * 2048 + (y 2).val))
  simp only [Nat.mul_one, Nat.add_zero, Nat.zero_mul, Nat.zero_add]

/-- The byte array after the run. -/
theorem array_eq (c : Dev nD) : (dats (F := F) m 0 c).arrAt (1 : Fin 2) cfg0.N = bytes :=
  Dat.arrAt_eq_of_cover (dats (F := F) m 0 c) (1 : Fin 2) bytes (fun t _ => flushed_eq m c t) fun i => by
    have hN : grid0.N = 4 := by decide
    have h0 : (i 0).val < 4 := (i 0).isLt
    refine ⟨⟨(i 0).val, by show (i 0).val < grid0.N; omega⟩, flush_all _, ?_⟩
    rw [mem_blk]
    intro a
    rw [index_eq]
    have h1 : (i 1).val < 2048 := (i 1).isLt
    have h2 : (i 2).val < 2048 := (i 2).isLt
    match a with
    | ⟨0, _⟩ => exact ⟨by show (i 0).val * 1 ≤ (i 0).val; omega, by show (i 0).val < (i 0).val * 1 + 1; omega⟩
    | ⟨1, _⟩ => exact ⟨by show 0 * 2048 ≤ (i 1).val; omega, by show (i 1).val < 0 * 2048 + 2048; omega⟩
    | ⟨2, _⟩ => exact ⟨by show 0 * 2048 ≤ (i 2).val; omega, by show (i 2).val < 0 * 2048 + 2048; omega⟩

end Cert.Mask

end
-- ==== Proof.KernelRun.lean ====
/- The kernel program's run. After the region three host operations are left: a table of zero bytes, the compare «not equal» of the byte
   array with it, and a change of format that changes nothing. So the result is one bit for each query row and key column: `mask`. -/
module

public import proofs.«01_k».proof.Proof.Block

@[expose] public section

set_option maxRecDepth 16384

noncomputable section

namespace Cert.Mask

open Idealize.ShloMosaic Idealize.ShloMosaic.ValueIdx Idealize.ShloMosaic.TcCoe Idealize.SL.Sem

/-- The mask of all four batch rows, one bit for each query row and key column. -/
def mask : (⟨3, ![4, 2048, 2048]⟩ : Shape).Idx → BitVec 1 :=
  fun i => BitVec.ofBool (decide (allowed (i 0).val (i 1).val (i 2).val))

open Cert.KernelIdeal Cert.KernelIdeal.Gen

variable {F : FTy → Type} [FloatOps F]
variable (m : (ℓ : Loc nD τ sig) → Buf (Elt F) ℓ) (ρ : Dev nD → PrngReg)

/-- The byte array compared with zeros is the mask. -/
theorem compare_eq : cmpi .ne bytes (broadcastInDim S4x2048x2048 ![] bcast_S_S4x2048x2048 (constantI S_ 8 0#8)) = mask := by
  funext i
  exact flag_ne_zero (allowed (i 0).val (i 1).val (i 2).val)

/-- The result as the lines after the region leave it. -/
theorem result_eq (c : Dev nD) : Pipeline.afterTail₀ cfgs (dats (F := F) m) 0 (V0 m) [hostOps1] c main_v3 = mask := by
  unfold Pipeline.afterTail₀
  simp only [List.flatten_cons, List.flatten_nil, List.append_nil, hostOps1]
  after_results
  have hw : Pipeline.withArrays (cfgs 0).spec c (V0 m c) (fun w => (dats (F := F) m 0 c).arrAt w (cfgs 0).N) (Proc.devRef .tc main_v0) = bytes :=
    (Pipeline.withArrays_arr spec0 launch0.win.arr_inj c (V0 m c) (fun w => (dats (F := F) m 0 c).arrAt w cfg0.N) (1 : Fin 2)).trans (array_eq m c)
  rw [hw]
  exact compare_eq

/-- Every weakly fair execution of the kernel program ends with its result the mask and its argument unchanged. -/
theorem kernel_run : θ_run defs (onTc (τ := τ) (main (F := F))) ⟨m, fun _ => 0, ρ⟩ fun r => ∀ c : Dev nD,
    r.2.mem ((c.tc : Thread nD τ).loc main_v3) = mask
      ∧ r.2.mem ((c.tc : Thread nD τ).loc main_arg0) = m ((c.tc : Thread nD τ).loc main_arg0) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c)⟩)
    (run_main (F := F) m ρ)

end Cert.Mask

end
-- ==== Proof.Scatter.lean ====
/- Setting a stretch of one row of a table, or a stretch of a vector, to one word: the reference's two kinds of scatter, read at an
   entry, at any sizes. Nothing here names a program. -/
module

public import Idealize.ShloMosaic.Lib.Routing.OpsOne

@[expose] public section

namespace Cert.Mask

open Idealize.ShloMosaic Idealize.ShloMosaic.ValueIdx Idealize.ShloMosaic.Routing

variable {α : Type}

/-- The one axis of the updates is the offset along the axis that a scatter keeps: update `k` sits `k` past the start there. -/
theorem offset_kept {s si : Shape} {U : Nat} (d : ScatterDims s si (shape1 U)) (a : Fin s.rank) (ha : a ∈ d.sKept) (k : Fin U) :
    d.window (ix1 k) a = k.val := by
  unfold ScatterDims.window
  rw [dif_pos ha]
  exact congrArg (fun t => ((ix1 k : (shape1 U).Idx) t).val) (Subsingleton.elim (α := Fin 1) _ 0)

/-- On an axis that a scatter inserts, no update is past the start. -/
theorem offset_inserted {s si u : Shape} (d : ScatterDims s si u) (a : Fin s.rank) (ha : a ∈ d.insertedWindowDims) (k : u.Idx) :
    d.window k a = 0 := by
  unfold ScatterDims.window
  rw [dif_neg fun h => (of_decide_eq_true (List.mem_filter.1 h).2) ha]

/-- `x.at[i, j : j + U].set(v)` for one word `v`, read at row `r`, column `c`: `v` where `r` is the first index word and `c` is among the
    `U` columns from the second, else the operand's entry. -/
theorem set_row {R C U w : Nat} (d : ScatterDims (shape2 R C) (shape1 2) (shape1 U)) (hiw : d.insertedWindowDims = [0])
    (hsd : d.scatterDimsToOperandDims = [0, 1]) (hivd : d.indexVectorDim = 0) (x : (shape2 R C).Idx → α) (idx : IVec (shape1 2) w)
    (upd : (shape1 U).Idx → α) (v : α) (hv : ∀ k, upd k = v) (i j : Nat) (hi : (idx (ix1 (0 : Fin 2))).toInt = i)
    (hj : (idx (ix1 (1 : Fin 2))).toInt = j) (r : Fin R) (c : Fin C) :
    Host.scatter d (fun _ b => b) x idx upd (ix2 r c) = if r.val = i ∧ j ≤ c.val ∧ c.val < j + U then v else x (ix2 r c) := by
  have lands : ∀ k : Fin U, d.resultIdx? (ix1 k) idx = some (ix2 r c) ↔ i = r.val ∧ j + k.val = c.val := fun k => by
    have w0 := offset_inserted d 0 (by rw [hiw]; exact List.mem_singleton.2 rfl) (ix1 k)
    have w1 := offset_kept d 1 (by
      show (1 : Fin 2) ∈ (shape2 R C).kept d.insertedWindowDims
      rw [hiw]; exact List.mem_singleton.2 rfl) k
    rw [resultIdx?_ix2, start_pair d hsd hivd, start_pair d hsd hivd, w0, w1, hi, hj]
    omega
  by_cases h : r.val = i ∧ j ≤ c.val ∧ c.val < j + U
  · rw [if_pos h]
    refine scatter_set_hit d x idx upd _ v (fun k _ => hv k) (ix1 ⟨c.val - j, by omega⟩) ((lands _).2 ⟨h.1.symm, ?_⟩)
    show j + (c.val - j) = c.val
    omega
  · rw [if_neg h]
    refine scatter_set_miss d x idx upd _ fun k hk => h ?_
    rw [eq_ix1 k] at hk
    have := (lands (k 0)).1 hk
    have hlt : (k 0).val < U := (k 0).isLt
    omega

/-- `x.at[j : j + U].set(v)` for one word `v`, read at entry `e`: `v` where `e` is among the `U` entries from the index word, else the
    operand's entry. -/
theorem set_stretch {N U w : Nat} (d : ScatterDims (shape1 N) (shape1 1) (shape1 U)) (hiw : d.insertedWindowDims = [])
    (hsd : d.scatterDimsToOperandDims = [0]) (x : (shape1 N).Idx → α) (idx : IVec (shape1 1) w)
    (upd : (shape1 U).Idx → α) (v : α) (hv : ∀ k, upd k = v) (j : Nat) (hj : (idx (ix1 (0 : Fin 1))).toInt = j) (e : Fin N) :
    Host.scatter d (fun _ b => b) x idx upd (ix1 e) = if j ≤ e.val ∧ e.val < j + U then v else x (ix1 e) := by
  have lands : ∀ k : Fin U, d.resultIdx? (ix1 k) idx = some (ix1 e) ↔ j + k.val = e.val := fun k => by
    have w0 := offset_kept d 0 (by
      show (0 : Fin 1) ∈ (shape1 N).kept d.insertedWindowDims
      rw [hiw]; exact List.mem_singleton.2 rfl) k
    have hm : (0 : Fin 1) ∈ d.scatterDimsToOperandDims := by rw [hsd]; exact List.mem_singleton.2 rfl
    have hs : d.start (ix1 k) idx 0 = (j : Int) := by
      unfold ScatterDims.start
      rw [dif_pos hm, ← hj]
      exact congrArg (fun z => (idx z).toInt) (funext fun b => match b with | ⟨0, _⟩ => Subsingleton.elim (α := Fin 1) _ _)
    rw [resultIdx?_ix1, hs, w0]
    omega
  by_cases h : j ≤ e.val ∧ e.val < j + U
  · rw [if_pos h]
    refine scatter_set_hit d x idx upd _ v (fun k _ => hv k) (ix1 ⟨e.val - j, by omega⟩) ((lands _).2 ?_)
    show j + (e.val - j) = e.val
    omega
  · rw [if_neg h]
    refine scatter_set_miss d x idx upd _ fun k hk => h ?_
    rw [eq_ix1 k] at hk
    have := (lands (k 0)).1 hk
    have hlt : (k 0).val < U := (k 0).isLt
    omega

end Cert.Mask
-- ==== Proof.RefMask.lean ====
/- What the reference computes: its tables of bounds entry by entry, its result as the mask, and the run that leaves it. -/
module

public import proofs.«01_k».proof.Proof.KernelRun
public import proofs.«01_k».proof.Proof.Scatter
public import proofs.«01_k».proof.Proof.Gen.ReferenceIdeal.Run
public import proofs.«01_k».proof.Proof.Gen.ReferenceIdeal.Read

@[expose] public section

noncomputable section

namespace Cert.Mask

open Cert.ReferenceIdeal Cert.ReferenceIdeal.Gen Cert.ReferenceIdeal.Read Idealize.ShloMosaic Idealize.ShloMosaic.TcCoe
  Idealize.ShloMosaic.StableHlo Idealize.ShloMosaic.ValueIdx Idealize.ShloMosaic.Routing Idealize.SL.Sem

variable {F : FTy → Type} [FloatOps F]

/-- The first word of two one-word vectors joined. -/
theorem pair_fst (x y : S1.Idx → BitVec 32) (h : Shape.Concatenates [S1, S1] S2 0) :
    concatenate S2 0 [⟨S1, x⟩, ⟨S1, y⟩] h (ix1 (0 : Fin 2)) = x (ix1 (0 : Fin 1)) :=
  concatenate_pair_apply_left 0 x y h _ rfl (ix1 (0 : Fin 1)) (fun b => match b with | ⟨0, _⟩ => rfl)

/-- The second word of two one-word vectors joined. -/
theorem pair_snd (x y : S1.Idx → BitVec 32) (h : Shape.Concatenates [S1, S1] S2 0) :
    concatenate S2 0 [⟨S1, x⟩, ⟨S1, y⟩] h (ix1 (1 : Fin 2)) = y (ix1 (0 : Fin 1)) :=
  concatenate_pair_apply_right 0 x y h _ rfl rfl (ix1 (0 : Fin 1)) (fun b hb => match b with | ⟨0, _⟩ => absurd rfl hb) rfl

/-- The table of paddings' ends: row `b` holds `padEnd b` at every column inside the padding and the column itself past it. -/
theorem pad_ends (b : Fin 4) (kv : Fin 2048) :
    val_main_v16 (F := F) (ix2 b kv) = BitVec.ofNat 32 (if kv.val < padEnd b.val then padEnd b.val else kv.val) := by
  have h0 := set_row scatter_S4x2048_S2_S80_0_0_01_0 rfl rfl rfl (val_main_v1 (F := F)) (val_main_v4 (F := F)) (val_main_v5 (F := F))
    80#32 (fun _ => rfl) 0 0 (congrArg BitVec.toInt (pair_fst _ _ _)) (congrArg BitVec.toInt (pair_snd _ _ _)) b kv
  have h1 := set_row scatter_S4x2048_S2_S100_0_0_01_0 rfl rfl rfl (val_main_v6 (F := F)) (val_main_v9 (F := F)) (val_main_v10 (F := F))
    100#32 (fun _ => rfl) 1 0 (congrArg BitVec.toInt (pair_fst _ _ _)) (congrArg BitVec.toInt (pair_snd _ _ _)) b kv
  have h2 := set_row scatter_S4x2048_S2_S110_0_0_01_0 rfl rfl rfl (val_main_v11 (F := F)) (val_main_v14 (F := F)) (val_main_v15 (F := F))
    110#32 (fun _ => rfl) 2 0 (congrArg BitVec.toInt (pair_fst _ _ _)) (congrArg BitVec.toInt (pair_snd _ _ _)) b kv
  have hv : val_main_v1 (F := F) (ix2 b kv) = BitVec.ofNat 32 kv.val := val_main_v1_apply _
  rw [show val_main_v16 (F := F) (ix2 b kv) = _ from h2, show val_main_v11 (F := F) (ix2 b kv) = _ from h1,
    show val_main_v6 (F := F) (ix2 b kv) = _ from h0, hv]
  clear h0 h1 h2 hv
  have hb := b.isLt
  rw [show (110#32) = BitVec.ofNat 32 110 from rfl, show (100#32) = BitVec.ofNat 32 100 from rfl,
    show (80#32) = BitVec.ofNat 32 80 from rfl, ← apply_ite (BitVec.ofNat 32), ← apply_ite (BitVec.ofNat 32), ← apply_ite (BitVec.ofNat 32)]
  refine congrArg (BitVec.ofNat 32) ?_
  unfold padEnd
  split_ifs <;> omega

/-- Where the full stretch of row `q` begins: `128` for a row inside it, else the row itself. -/
theorem full_begins (q : Fin 2048) :
    val_main_v24 (F := F) (ix1 q) = BitVec.ofNat 32 (if 128 ≤ q.val ∧ q.val < 1152 then 128 else q.val) := by
  refine (set_stretch scatter_S2048_S1_S1024_0_n_0_0 rfl rfl (val_main_v20 (F := F)) (val_main_v22 (F := F)) (val_main_v23 (F := F))
    128#32 (fun _ => rfl) 128 rfl q).trans ?_
  rw [apply_ite (BitVec.ofNat 32)]
  rfl

/-- Where the full stretch of row `q` ends: `1152` for a row inside it, else the row itself. -/
theorem full_ends (q : Fin 2048) :
    val_main_v27 (F := F) (ix1 q) = BitVec.ofNat 32 (if 128 ≤ q.val ∧ q.val < 1152 then 1152 else q.val) := by
  refine (set_stretch scatter_S2048_S1_S1024_0_n_0_0 rfl rfl (val_main_v21 (F := F)) (val_main_v25 (F := F)) (val_main_v26 (F := F))
    1152#32 (fun _ => rfl) 128 rfl q).trans ?_
  rw [apply_ite (BitVec.ofNat 32)]
  rfl

/-- The causal part at `(b, q, kv)`: the column is past the padding and not after the row. -/
theorem causal_at (b : Fin 4) (q kv : Fin 2048) :
    val_main_v41 (F := F) (ix3 b q kv) = BitVec.ofBool (decide (padEnd b.val ≤ kv.val ∧ kv.val ≤ q.val)) := by
  have hp := padEnd_le b.val
  have hb : (if kv.val < padEnd b.val then padEnd b.val else kv.val) < 2 ^ 31 := by split_ifs <;> omega
  rw [val_main_v41_apply, val_main_v39_apply, val_main_v35_apply, val_main_v34_apply, val_main_v33_apply, val_main_v31_apply,
    val_main_v32_apply, val_main_v40_apply, val_main_v38_apply, val_main_v36_apply, val_main_v29_apply, val_main_v37_apply,
    val_main_v31_apply, val_main_v30_apply, val_main_v28_apply]
  rw [show idx_main_v32 (idx_main_v39 (ix3 b q kv)) = ix2 b kv from funext fun a => match a with | ⟨0, _⟩ => rfl | ⟨1, _⟩ => rfl,
    pad_ends]
  refine (congrArg₂ IntOp.andi (congrArg (~~~ ·) (cmpi_slt_small (a := kv.val) (by omega) hb))
    (cmpi_sge_small (a := q.val) (b := kv.val) (by omega) (by omega))).trans ?_
  rw [not_ofBool, andi_ofBool]
  refine congrArg BitVec.ofBool ?_
  rw [Bool.eq_iff_iff]
  simp only [Bool.and_eq_true, Bool.not_eq_true', decide_eq_false_iff_not, decide_eq_true_eq]
  split_ifs <;> omega

/-- The diagonal part at `(b, q, kv)`: the column is the row. -/
theorem diagonal_at (b : Fin 4) (q kv : Fin 2048) :
    val_main_v45 (F := F) (ix3 b q kv) = BitVec.ofBool (decide (kv.val = q.val)) := by
  rw [val_main_v45_apply, val_main_v44_apply, val_main_v42_apply, val_main_v29_apply, val_main_v43_apply, val_main_v31_apply,
    val_main_v30_apply, val_main_v28_apply]
  refine (cmpi_eq_small (a := q.val) (b := kv.val) (by omega) (by omega)).trans (congrArg BitVec.ofBool ?_)
  exact decide_eq_decide.2 eq_comm

/-- The full part at `(b, q, kv)`: both the row and the column are in the stretch `[128, 1152)`. -/
theorem full_at (b : Fin 4) (q kv : Fin 2048) :
    val_main_v56 (F := F) (ix3 b q kv)
      = BitVec.ofBool (decide (128 ≤ q.val ∧ q.val < 1152 ∧ 128 ≤ kv.val ∧ kv.val < 1152)) := by
  have he : (if 128 ≤ q.val ∧ q.val < 1152 then 1152 else q.val) < 2 ^ 31 := by split_ifs <;> omega
  have hs : (if 128 ≤ q.val ∧ q.val < 1152 then 128 else q.val) < 2 ^ 31 := by split_ifs <;> omega
  rw [val_main_v56_apply, val_main_v55_apply, val_main_v50_apply, val_main_v48_apply, val_main_v31_apply, val_main_v49_apply,
    val_main_v47_apply, val_main_v54_apply, val_main_v52_apply, val_main_v31_apply, val_main_v53_apply, val_main_v51_apply,
    val_main_v30_apply]
  rw [show idx_main_v47 (idx_main_v49 (idx_main_v56 (ix3 b q kv))) = ix1 q from funext fun a => match a with | ⟨0, _⟩ => rfl,
    show idx_main_v51 (idx_main_v53 (idx_main_v56 (ix3 b q kv))) = ix1 q from funext fun a => match a with | ⟨0, _⟩ => rfl,
    full_ends, full_begins]
  refine (congrArg₂ IntOp.andi (cmpi_slt_small (a := kv.val) (by omega) he) (cmpi_sge_small (a := kv.val) (by omega) hs)).trans ?_
  rw [andi_ofBool]
  refine congrArg BitVec.ofBool ?_
  rw [Bool.eq_iff_iff]
  simp only [Bool.and_eq_true, decide_eq_true_eq]
  split_ifs <;> omega

/-- The reference's result at `(b, q, kv)`: whether `(q, kv)` is allowed in batch `b`. -/
theorem reference_at (b : Fin 4) (q kv : Fin 2048) :
    val_main_v57 (F := F) (ix3 b q kv) = BitVec.ofBool (decide (allowed b.val q.val kv.val)) := by
  rw [val_main_v57_apply, val_main_v46_apply, causal_at, diagonal_at, full_at, ori_ofBool, ori_ofBool]
  refine congrArg BitVec.ofBool ?_
  rw [Bool.eq_iff_iff]
  simp only [Bool.or_eq_true, decide_eq_true_eq]
  exact or_assoc

/-- The reference's result is the mask. -/
theorem reference_eq : val_main_v57 (F := F) = mask :=
  funext fun i => (congrArg (val_main_v57 (F := F)) (eq_ix3 i)).trans (reference_at (i 0) (i 1) (i 2))

/-- The reference runs, its result is the mask, and its argument ends as it was. -/
theorem reference_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v57) = mask
      ∧ r.2.mem ((c.tc : Thread nD τ).loc main_arg0) = m ((c.tc : Thread nD τ).loc main_arg0) :=
  (θ_run defs _ _).mono (fun _ h c => ⟨((h c).1.trans val_main_v57_eq).trans reference_eq, (h c).2⟩)
    (Cert.ReferenceIdeal.Value.run (F := F) m ρ)

end Cert.Mask

end
-- ==== Proof.lean ====
/- The certificate: the kernel and its idealization run, change no argument and end with every semaphore at zero; so does the
   reference; and the idealization and the reference leave the same mask. The mathematics is in the modules imported here. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefMask
public import Idealize.ShloMosaic.Lib.Quiescent

@[expose] public section

noncomputable section

namespace Cert.Proof

open Idealize.ShloMosaic Idealize.SL.Sem

/-- The kernel, as it runs on words, terminates without a fault, keeps its argument and leaves every semaphore at zero. -/
theorem kernel_frame : Cert.quiescent_Kernel (hKernel := Cert.Kernel.Gen.facts) :=
  fun m ρ _ => Cert.Kernel.Gen.frame m ρ

/-- The same of the kernel's idealization. -/
theorem ideal_frame : Cert.quiescent_KernelIdeal (hKernelIdeal := Cert.KernelIdeal.Gen.facts) :=
  fun m ρ _ => Cert.KernelIdeal.Gen.frame m ρ

/-- The same of the reference, which has no semaphore at all. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.Mask.reference_run (F := Ideal) m ρ)

/-- The idealization and the reference leave the same result: the mask. -/
theorem results_agree : Cert.algebraic_KernelIdeal_ReferenceIdeal (hKernelIdeal := Cert.KernelIdeal.Gen.facts)
    (hReferenceIdeal := Cert.ReferenceIdeal.Gen.facts) :=
  fun m ρ m' ρ' _ _ => ⟨fun _ => Cert.Mask.mask, Cert.Mask.kernel_run (F := Ideal) m ρ, Cert.Mask.reference_run (F := Ideal) m' ρ'⟩

/-- Every claim. -/
theorem claim : Cert.Claim := ⟨Cert.Kernel.Gen.facts, Cert.KernelIdeal.Gen.facts, Cert.ReferenceIdeal.Gen.facts,
  kernel_frame, ideal_frame, reference_frame, trivial, results_agree⟩

end Cert.Proof

end
